-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S8192x1024 : Shape := ⟨2, ![8192, 1024]⟩
abbrev S256x1024 : Shape := ⟨2, ![256, 1024]⟩
abbrev S16x1024 : Shape := ⟨2, ![16, 1024]⟩
abbrev S_ : Shape := ⟨0, ![]⟩
abbrev S1x8192x1024 : Shape := ⟨3, ![1, 8192, 1024]⟩

abbrev nBuf : Table → Nat
  | .hbm => 4
  | .shared => 4
  | .local .scVector .vmem => 3
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S8192x1024, .f32⟩
  | .hbm, ⟨3, _⟩ => ⟨S1x8192x1024, .f32⟩
  | .shared, ⟨0, _⟩ => ⟨S256x1024, .f32⟩
  | .shared, ⟨1, _⟩ => ⟨S256x1024, .f32⟩
  | .shared, ⟨2, _⟩ => ⟨S256x1024, .f32⟩
  | .shared, ⟨3, _⟩ => ⟨S256x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev cc0_scoped0 : Ref sig .scVector := ⟨.vmem, 0, rfl⟩
abbrev cc0_scoped1 : Ref sig .scVector := ⟨.vmem, 1, rfl⟩
abbrev cc0_scoped2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_r0 : BitVec 32) : Fin 2 → Nat :=
  let arg1 : BitVec 32 := BitVec.ofNat 32 (i 1).val
  let c2_i32_r0 : BitVec 32 := 2#32
  let v6_r0 : BitVec 32 := Scalar.muli arg1 c2_i32_r0
  let arg0 : BitVec 32 := BitVec.ofNat 32 (i 0).val
  let v7_r0 : BitVec 32 := Scalar.addi v6_r0 arg0
  let c144_i32_r0 : BitVec 32 := 144#32
  let v8_r0 : BitVec 32 := Scalar.muli v7_r0 c144_i32_r0
  let v9_r0 : BitVec 32 := Scalar.addi v8_r0 c0_i32_r0
  let c0_i32_2_r0 : BitVec 32 := 0#32
  ![v9_r0.toNat, 0]
abbrev grid1 : Pipeline.Grid := ⟨1, ![2], ![false]⟩

def k1_off1 (i : grid1.Coords) (c0_i32_r0 : BitVec 32) : Fin 2 → Nat :=
  let c4608_i32_r0 : BitVec 32 := 4608#32
  let arg0 : BitVec 32 := BitVec.ofNat 32 (i 0).val
  let c1792_i32_r0 : BitVec 32 := 1792#32
  let v8_r0 : BitVec 32 := Scalar.muli arg0 c1792_i32_r0
  let v9_r0 : BitVec 32 := Scalar.addi c4608_i32_r0 v8_r0
  let v10_r0 : BitVec 32 := Scalar.addi v9_r0 c0_i32_r0
  let c0_i32_0_r0 : BitVec 32 := 0#32
  ![v10_r0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Setup.lean ====
/-
  The positional-embedding copy on the SparseCores: names, and the division of the table's 8192 rows.

  `@main` has one SparseCore call of two bodies, then one broadcast on the TensorCore. Of the call's rows, tile
  `(c, s)` copies the 144 rows from `288 s + 144 c` (nine chunks of 16), and the sequencer of SparseCore `c` the 1792
  rows from `4608 + 1792 c` (seven chunks of 256, through its shared memory). This file names the two arrays, the row
  sets and what the call holds of them, and proves that the row sets divide the table.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ViewIndex
public import proofs.«01_k».proof.Proof.Gen.KernelIdeal
public import proofs.«01_k».proof.Proof.Gen.KernelIdeal.Skeleton

@[expose] public section

noncomputable section

namespace Cert.Proof.PosEmb

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
/-- The calls with the tiles' bodies alone: where the launch's semaphores, levels and payloads are read. -/
abbrev K : SparseCore.Cfg τ sig (ΛP (F := F)) 1 := (sc (F := F)).noSeq
/-- The sequencers' bodies. -/
abbrev σ : (q : Fin 1) → Option (Σ ℓ : (ΛP (F := F)).Label, (ΛP (F := F)).Args ℓ) := (sc (F := F)).seq
abbrev D [FloatOps F] : Defs nD τ sig (Elt F) (ΛP (F := F)) := Pipeline.defs pcfgs defs₀
abbrev 𝒱₀ : Variants := Variants.none
abbrev 𝒱 : Variants := 𝒱₀.lift
/-- The bound of a kernel's body, and that of the dispatch region above it. -/
abbrev v₀ : 𝒱.V := Sum.inl none
abbrev vD : 𝒱.V := Sum.inr 0
theorem v₀_lt_vD : 𝒱.lt v₀ vD := Sum.Lex.sep _ _

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The first argument, which the program never reads; the table; the call's result; `@main`'s result. -/
abbrev aLoc (d : Dev nD) : Loc nD τ sig := (SparseCore.T d).loc main_arg0
abbrev peLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- What the call's result holds after the call: the table. -/
abbrev copied (d : Dev nD) : Buf (Elt F) (oLoc d) := m (peLoc d)

/-! ## Row sets -/

/-- Rows `lo, …, lo + n - 1`. -/
def rows (lo n : ℕ) : Finset S8192x1024.Idx := Finset.univ.filter fun i => lo ≤ (i 0).val ∧ (i 0).val < lo + n

theorem mem_rows {lo n : ℕ} {i : S8192x1024.Idx} : i ∈ rows lo n ↔ lo ≤ (i 0).val ∧ (i 0).val < lo + n := by
  unfold rows; rw [Finset.mem_filter]; exact and_iff_right (Finset.mem_univ i)

theorem row_lt (i : S8192x1024.Idx) : (i 0).val < 8192 := (i 0).isLt

theorem rows_apart {lo n lo' n' : ℕ} (h : lo + n ≤ lo' ∨ lo' + n' ≤ lo) : Disjoint (rows lo n) (rows lo' n') :=
  Finset.disjoint_left.mpr fun i hi hi' => by rw [mem_rows] at hi hi'; omega

/-- A rectangle of whole rows is its rows. -/
theorem unit_rows {off size : Fin 2 → ℕ} {inb : ∀ a, off a + size a ≤ S8192x1024.size a} (lo n : ℕ) (h0 : off 0 = lo) (h1 : off 1 = 0)
    (hs : size 0 = n) (hw : size 1 = 1024) : (Rect.unit (s := S8192x1024) off size inb).set = rows lo n := by
  ext i
  rw [Rect.mem_set_unit, mem_rows]
  have hc : (i 1).val < 1024 := (i 1).isLt
  constructor
  · intro h; have := h 0; rw [h0, hs] at this; exact this
  · intro h a
    match a with
    | 0 => rw [h0, hs]; exact h
    | 1 => rw [h1, hw]; exact ⟨Nat.zero_le _, by omega⟩

/-- `k` chunks of `n` rows each, in order. -/
theorem chunks_cover (lo n k N : ℕ) (hn : 0 < n) (hN : N = n * k) :
    (Finset.univ : Finset (Fin k)).biUnion (fun r => rows (lo + n * r.val) n) = rows lo N := by
  ext i
  rw [Finset.mem_biUnion, mem_rows]
  constructor
  · rintro ⟨r, -, h⟩
    rw [mem_rows] at h
    have h1 : n * r.val + n ≤ n * k := by rw [← Nat.mul_succ]; exact Nat.mul_le_mul_left n r.isLt
    omega
  · rintro ⟨h1, h2⟩
    have hd := Nat.div_add_mod ((i 0).val - lo) n
    have hm := Nat.mod_lt ((i 0).val - lo) hn
    have hk : ((i 0).val - lo) / n < k := Nat.div_lt_of_lt_mul (by omega)
    refine ⟨⟨_, hk⟩, Finset.mem_univ _, mem_rows.mpr ?_⟩
    dsimp only
    omega

theorem chunks_apart (lo n k : ℕ) : ∀ r ∈ (Finset.univ : Finset (Fin k)), ∀ r' ∈ (Finset.univ : Finset (Fin k)), r ≠ r' →
    Disjoint (rows (lo + n * r.val) n) (rows (lo + n * r'.val) n) := by
  intro r _ r' _ h
  apply rows_apart
  rcases Nat.lt_or_gt_of_ne (fun e => h (Fin.ext e)) with h | h
  · left; have := Nat.mul_le_mul_left n (Nat.succ_le_of_lt h); rw [Nat.mul_succ] at this; omega
  · right; have := Nat.mul_le_mul_left n (Nat.succ_le_of_lt h); rw [Nat.mul_succ] at this; omega

/-- Tile `(c, s)`'s rows, SparseCore `c`'s sequencer's, and all of SparseCore `c`'s. -/
def tileRows (c s : ℕ) : Finset S8192x1024.Idx := rows (288 * s + 144 * c) 144
def seqRows (c : ℕ) : Finset S8192x1024.Idx := rows (1792 * c + 4608) 1792
def tilesRows (c : ℕ) : Finset S8192x1024.Idx := (Finset.univ : Finset (Fin 16)).biUnion fun s => tileRows c s.val
def coreRows (c : ℕ) : Finset S8192x1024.Idx := tilesRows c ∪ seqRows c

theorem tiles_apart (c : ℕ) (hc : c < 2) : ∀ s ∈ (Finset.univ : Finset (Fin 16)), ∀ s' ∈ (Finset.univ : Finset (Fin 16)), s ≠ s' →
    Disjoint (tileRows c s.val) (tileRows c s'.val) := by
  intro s _ s' _ h
  have : s.val ≠ s'.val := fun e => h (Fin.ext e)
  unfold tileRows; apply rows_apart; omega

theorem mem_tilesRows {c : ℕ} {i : S8192x1024.Idx} : i ∈ tilesRows c ↔ ∃ s : Fin 16, 288 * s.val + 144 * c ≤ (i 0).val ∧ (i 0).val < 288 * s.val + 144 * c + 144 := by
  unfold tilesRows tileRows
  simp only [Finset.mem_biUnion, Finset.mem_univ, true_and, mem_rows]

theorem tiles_seq_apart (c : ℕ) (hc : c < 2) : Disjoint (tilesRows c) (seqRows c) := by
  refine Finset.disjoint_left.mpr fun i hi hi' => ?_
  obtain ⟨s, h⟩ := mem_tilesRows.mp hi
  unfold seqRows at hi'
  rw [mem_rows] at hi'
  have := s.isLt
  omega

theorem mem_coreRows {c : ℕ} {i : S8192x1024.Idx} : i ∈ coreRows c ↔
    (∃ s : Fin 16, 288 * s.val + 144 * c ≤ (i 0).val ∧ (i 0).val < 288 * s.val + 144 * c + 144) ∨ (1792 * c + 4608 ≤ (i 0).val ∧ (i 0).val < 1792 * c + 4608 + 1792) := by
  unfold coreRows; rw [Finset.mem_union, mem_tilesRows]; unfold seqRows; rw [mem_rows]

theorem cores_apart : ∀ c ∈ (Finset.univ : Finset (Fin 2)), ∀ c' ∈ (Finset.univ : Finset (Fin 2)), c ≠ c' →
    Disjoint (coreRows c.val) (coreRows c'.val) := by
  intro c _ c' _ h
  have hne : c.val ≠ c'.val := fun e => h (Fin.ext e)
  have := c.isLt
  have := c'.isLt
  refine Finset.disjoint_left.mpr fun i hi hi' => ?_
  rw [mem_coreRows] at hi hi'
  rcases hi with ⟨s, hs⟩ | hi <;> rcases hi' with ⟨s', hs'⟩ | hi'
  · have := s.isLt; have := s'.isLt; omega
  · have := s.isLt; omega
  · have := s'.isLt; omega
  · omega

theorem cores_cover : (Finset.univ : Finset (Fin 2)).biUnion (fun c => coreRows c.val) = Finset.univ := by
  refine Finset.eq_univ_iff_forall.mpr fun i => Finset.mem_biUnion.mpr ?_
  have hi := row_lt i
  by_cases h : (i 0).val < 4608
  · by_cases h' : (i 0).val % 288 < 144
    · exact ⟨0, Finset.mem_univ _, mem_coreRows.mpr (.inl ⟨⟨(i 0).val / 288, by omega⟩, by constructor <;> simp only [Fin.val_zero] <;> omega⟩)⟩
    · exact ⟨1, Finset.mem_univ _, mem_coreRows.mpr (.inl ⟨⟨(i 0).val / 288, by omega⟩, by constructor <;> simp only [Fin.val_one] <;> omega⟩)⟩
  · by_cases h' : (i 0).val < 6400
    · exact ⟨0, Finset.mem_univ _, mem_coreRows.mpr (.inr (by simp only [Fin.val_zero]; omega))⟩
    · exact ⟨1, Finset.mem_univ _, mem_coreRows.mpr (.inr (by simp only [Fin.val_one]; omega))⟩

/-! ## What a worker holds: the same rows of the table and of the call's result -/

/-- Rows `I` of the table at its launch contents and of the call's result at `g`. -/
def both (d : Dev nD) (I : Finset S8192x1024.Idx) (g : Buf (Elt F) (oLoc d)) : sProp 𝕄 :=
  iprop((peLoc d ↦[I]{fullShare} m (peLoc d)) ∗ oLoc d ↦[I]{fullShare} g)

instance both_storable (d : Dev nD) (I : Finset S8192x1024.Idx) (g : Buf (Elt F) (oLoc d)) : BI.Storable (upEmb : UEmb _ 𝕄) (both m d I g) := by
  unfold both; infer_instance

theorem both_biUnion (d : Dev nD) (g : Buf (Elt F) (oLoc d)) {J : Type} [Fintype J] (A : J → Finset S8192x1024.Idx)
    (h : ∀ j ∈ (Finset.univ : Finset J), ∀ j' ∈ (Finset.univ : Finset J), j ≠ j' → Disjoint (A j) (A j')) :
    (both m d (Finset.univ.biUnion A) g : sProp 𝕄) = bigSep Finset.univ fun j => both m d (A j) g := by
  unfold both
  rw [bigSep_sep', ← pointsTo_biUnion Finset.univ (ℓ := peLoc d) A h, ← pointsTo_biUnion Finset.univ (ℓ := oLoc d) A h]

/-- A SparseCore's rows dealt to its tiles and its sequencer, -/
theorem both_core_deal (d : Dev nD) (g : Buf (Elt F) (oLoc d)) (c : ℕ) (hc : c < 2) :
    (both m d (coreRows c) g : sProp 𝕄) ⊢ iprop((bigSep Finset.univ fun s : Fin 16 => both m d (tileRows c s.val) g) ∗ both m d (seqRows c) g) := by
  rw [← both_biUnion m d g (fun s : Fin 16 => tileRows c s.val) (tiles_apart c hc)]
  show both m d (tilesRows c ∪ seqRows c) g ⊢ iprop(both m d (tilesRows c) g ∗ both m d (seqRows c) g)
  unfold both
  iintro ⟨Hp, Ho⟩
  ihave Hp' := (pointsTo_union (ℓ := peLoc d) (tiles_seq_apart c hc)).1 $$ Hp
  ihave Ho' := (pointsTo_union (ℓ := oLoc d) (tiles_seq_apart c hc)).1 $$ Ho
  icases Hp' with ⟨Hp1, Hp2⟩
  icases Ho' with ⟨Ho1, Ho2⟩
  isplitl [Hp1 Ho1]
  · isplitl [Hp1] <;> iassumption
  · isplitl [Hp2] <;> iassumption

/-- and gathered from them. -/
theorem both_core_gather (d : Dev nD) (g : Buf (Elt F) (oLoc d)) (c : ℕ) (hc : c < 2) :
    iprop((bigSep Finset.univ fun s : Fin 16 => both m d (tileRows c s.val) g) ∗ both m d (seqRows c) g) ⊢ (both m d (coreRows c) g : sProp 𝕄) := by
  rw [← both_biUnion m d g (fun s : Fin 16 => tileRows c s.val) (tiles_apart c hc)]
  show iprop(both m d (tilesRows c) g ∗ both m d (seqRows c) g) ⊢ both m d (tilesRows c ∪ seqRows c) g
  unfold both
  iintro ⟨⟨Hp1, Ho1⟩, ⟨Hp2, Ho2⟩⟩
  isplitl [Hp1 Hp2]
  · iapply (pointsTo_union (ℓ := peLoc d) (tiles_seq_apart c hc)).2
    isplitl [Hp1] <;> iassumption
  · iapply (pointsTo_union (ℓ := oLoc d) (tiles_seq_apart c hc)).2
    isplitl [Ho1] <;> iassumption

/-- Both arrays whole are the two SparseCores' rows. -/
theorem both_whole (d : Dev nD) (g : Buf (Elt F) (oLoc d)) :
    (iprop((peLoc d ↦{fullShare} m (peLoc d)) ∗ oLoc d ↦{fullShare} g) : sProp 𝕄) = bigSep Finset.univ fun c : Fin 2 => both m d (coreRows c.val) g := by
  rw [← both_biUnion m d g (fun c : Fin 2 => coreRows c.val) cores_apart, cores_cover]; rfl

/-! ## A thread's own buffers and counters, those a body names apart -/

/-- The buffers of `B` out of a thread's own, each at some contents, and the rest. -/
theorem ownBufs_apart (d : Dev nD) (p : Proc τ) (B : Finset (Ref sig p.kind)) (h : ∀ b ∈ B, p.devRef b ∈ ownRefs (τ := τ) (sig := sig) p) :
    (ownBufs (d, p) : sProp 𝕄)
      = iprop((bigSep B fun b => iprop(∃ f, ((d, p.devRef b) : Loc nD τ sig) ↦{fullShare} f))
          ∗ bigSep (ownRefs (τ := τ) p \ B.image p.devRef) fun b => iprop(∃ f, ((d, b) : Loc nD τ sig) ↦{fullShare} f)) := by
  unfold SparseCore.Cfg.ownBufs
  rw [SparseCore.bigSep_sdiff_split' (t := B.image p.devRef) (Finset.image_subset_iff.mpr h),
    SparseCore.bigSep_image_of_injOn (fun a _ b _ e => Proc.devRef_injective p e)]

/-- The counters of `C` out of a thread's own, each at zero, and the rest. -/
theorem ownSems0_apart (thr : Thread nD τ) (C : Finset (SemLoc sig)) (h : ∀ c ∈ C, (thr, c) ∈ ownCells thr) :
    (ownSems0 thr : sProp 𝕄)
      = iprop((bigSep C fun c => semVal (thr, c) 0) ∗ bigSep (ownCells thr \ C.image fun c => (thr, c)) fun g => semVal g 0) := by
  unfold SparseCore.Cfg.ownSems0
  rw [SparseCore.bigSep_sdiff_split' (t := C.image fun c => (thr, c)) (Finset.image_subset_iff.mpr h),
    SparseCore.bigSep_image_of_injOn (fun a _ b _ e => (Prod.mk.inj e).2)]

/-- Contents a window reads alike are alike for who holds the window. -/
theorem pts_of_read (thr : Thread nD τ) {sp : Space} {sh : Shape} {e : EltTy} (v : View sig thr.2.kind sp sh e) (f g : Buf (Elt F) (v.loc thr))
    (h : v.read (Elt F) f = v.read (Elt F) g) : (v.loc thr ↦[v.set]{fullShare} f : sProp 𝕄) = (v.loc thr ↦[v.set]{fullShare} g) := by
  refine pointsTo_congr fun i hi => ?_
  obtain ⟨x, -, rfl⟩ := Finset.mem_map.mp hi
  exact View.eq_of_read_eq (congrFun h x)

end Cert.Proof.PosEmb

end
-- ==== Proof.Tile.lean ====
/-
  A tile's kernel: nine chunks of 16 rows, read into three local buffers in turn and written out from them.
-/
module

public import proofs.«01_k».proof.Proof.Setup

@[expose] public section

noncomputable section

namespace Cert.Proof.PosEmb

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The tile at coordinates `L`. -/
abbrev cV : Fin τ.nSC := (L 0).castLE hcore0
abbrev jV : Fin τ.nSub := (L 1).castLE hsub0

/-- Chunk `r` of the tile's rows, of the table and of the call's result. -/
abbrev peC (r : Fin 9) : Memref sig .scVector .hbm S16x1024 .f32 :=
  (Memref.whole main_arg1_scv).slice (Rect.unit (s := S8192x1024) (k0_off1 L (BitVec.ofNat 32 (16 * r.val))) S16x1024.size (k0_off1_inb L r)) (fun _ => rfl)
abbrev oC (r : Fin 9) : Memref sig .scVector .hbm S16x1024 .f32 :=
  (Memref.whole main_v0_scv).slice (Rect.unit (s := S8192x1024) (k0_off1 L (BitVec.ofNat 32 (16 * r.val))) S16x1024.size (k0_off1_inb L r)) (fun _ => rfl)

/-- The rows of chunk `r`. -/
abbrev chunkV (r : Fin 9) : Finset S8192x1024.Idx := rows (288 * (L 1).val + 144 * (L 0).val + 16 * r.val) 16

theorem chunkV_set (r : Fin 9) :
    (Rect.unit (s := S8192x1024) (k0_off1 L (BitVec.ofNat 32 (16 * r.val))) S16x1024.size (k0_off1_inb L r)).set = chunkV L r :=
  unit_rows _ _ (by rw [k0_off1_eq]; rfl) (by rw [k0_off1_eq]; rfl) rfl rfl

theorem peC_set (r : Fin 9) : (peC L r).view.set = chunkV L r := (View.set_slice_whole _ _).trans (chunkV_set L r)
theorem oC_set (r : Fin 9) : (oC L r).view.set = chunkV L r := (View.set_slice_whole _ _).trans (chunkV_set L r)

theorem pts_peC (r : Fin 9) (f : Buf (Elt F) (peLoc d)) :
    ((peC L r).view.loc (V d (cV L) (jV L)) ↦[(peC L r).view.set]{fullShare} f : sProp 𝕄) = (peLoc d ↦[chunkV L r]{fullShare} f) := by
  rw [peC_set]
theorem pts_oC (r : Fin 9) (f : Buf (Elt F) (oLoc d)) :
    ((oC L r).view.loc (V d (cV L) (jV L)) ↦[(oC L r).view.set]{fullShare} f : sProp 𝕄) = (oLoc d ↦[chunkV L r]{fullShare} f) := by
  rw [oC_set]

/-- A tile's buffers and its counters, those of its kernel apart. -/
theorem ownBufs_tile : (ownBufs (V d (cV L) (jV L)) : sProp 𝕄)
    = iprop(((∃ f, (Memref.whole cc0_scoped0).view.loc (V d (cV L) (jV L)) ↦{fullShare} f) ∗ (∃ f, (Memref.whole cc0_scoped1).view.loc (V d (cV L) (jV L)) ↦{fullShare} f) ∗ (∃ f, (Memref.whole cc0_scoped2).view.loc (V d (cV L) (jV L)) ↦{fullShare} f))
        ∗ bigSep (ownRefs (τ := τ) (.scVector (cV L) (jV L)) \ ({cc0_scoped0, cc0_scoped1, cc0_scoped2} : Finset (Ref sig .scVector)).image (Proc.scVector (cV L) (jV L)).devRef) fun b => iprop(∃ f, ((d, b) : Loc nD τ sig) ↦{fullShare} f)) := by
  refine (ownBufs_apart d (.scVector (cV L) (jV L)) {cc0_scoped0, cc0_scoped1, cc0_scoped2} fun b hb => ?_).trans ?_
  · simp only [Finset.mem_insert, Finset.mem_singleton] at hb
    rcases hb with rfl | rfl | rfl <;> exact SparseCore.Cfg.mem_ownRefs_of_owner (p := Proc.scVector ..) rfl
  · rw [SparseCore.bigSep_insert' (show cc0_scoped0 ∉ ({cc0_scoped1, cc0_scoped2} : Finset (Ref sig .scVector)) by decide),
      SparseCore.bigSep_insert' (show cc0_scoped1 ∉ ({cc0_scoped2} : Finset (Ref sig .scVector)) by decide), bigSep_singleton]

/-- The counters of a tile's kernel. -/
abbrev cellsV : Finset (SemLoc sig) :=
  {.dma cc0_scoped3.sem, .dma cc0_scoped4.sem, .dma cc0_scoped5.sem, .dma cc0_scoped6.sem, .dma cc0_scoped7.sem, .dma cc0_scoped8.sem}

theorem ownSems_tile : (ownSems0 (V d (cV L) (jV L)) : sProp 𝕄)
    = iprop((semVal (V d (cV L) (jV L), .dma cc0_scoped3.sem) 0 ∗ semVal (V d (cV L) (jV L), .dma cc0_scoped4.sem) 0 ∗ semVal (V d (cV L) (jV L), .dma cc0_scoped5.sem) 0
          ∗ semVal (V d (cV L) (jV L), .dma cc0_scoped6.sem) 0 ∗ semVal (V d (cV L) (jV L), .dma cc0_scoped7.sem) 0 ∗ semVal (V d (cV L) (jV L), .dma cc0_scoped8.sem) 0)
        ∗ bigSep (ownCells (V d (cV L) (jV L)) \ cellsV.image fun c => (V d (cV L) (jV L), c)) fun g => semVal g 0) := by
  refine (ownSems0_apart (V d (cV L) (jV L)) cellsV fun c hc => mem_ownCells.mpr ⟨rfl, ?_⟩).trans ?_
  · exact (show ∀ c ∈ cellsV, c.isScoped .scVector = true by decide) c hc
  · rw [SparseCore.bigSep_insert' (show SemLoc.dma cc0_scoped3.sem ∉ ({.dma cc0_scoped4.sem, .dma cc0_scoped5.sem, .dma cc0_scoped6.sem, .dma cc0_scoped7.sem, .dma cc0_scoped8.sem} : Finset (SemLoc sig)) by decide),
      SparseCore.bigSep_insert' (show SemLoc.dma cc0_scoped4.sem ∉ ({.dma cc0_scoped5.sem, .dma cc0_scoped6.sem, .dma cc0_scoped7.sem, .dma cc0_scoped8.sem} : Finset (SemLoc sig)) by decide),
      SparseCore.bigSep_insert' (show SemLoc.dma cc0_scoped5.sem ∉ ({.dma cc0_scoped6.sem, .dma cc0_scoped7.sem, .dma cc0_scoped8.sem} : Finset (SemLoc sig)) by decide),
      SparseCore.bigSep_insert' (show SemLoc.dma cc0_scoped6.sem ∉ ({.dma cc0_scoped7.sem, .dma cc0_scoped8.sem} : Finset (SemLoc sig)) by decide),
      SparseCore.bigSep_insert' (show SemLoc.dma cc0_scoped7.sem ∉ ({.dma cc0_scoped8.sem} : Finset (SemLoc sig)) by decide), bigSep_singleton]

/-- The tile's rows are its nine chunks. -/
theorem both_tile (g : Buf (Elt F) (oLoc d)) : (both m d (tileRows (L 0).val (L 1).val) g : sProp 𝕄)
    = iprop(both m d (chunkV L 0) g ∗ both m d (chunkV L 1) g ∗ both m d (chunkV L 2) g ∗ both m d (chunkV L 3) g ∗ both m d (chunkV L 4) g
        ∗ both m d (chunkV L 5) g ∗ both m d (chunkV L 6) g ∗ both m d (chunkV L 7) g ∗ both m d (chunkV L 8) g) := by
  unfold tileRows
  rw [← chunks_cover (288 * (L 1).val + 144 * (L 0).val) 16 9 144 (by decide) (by decide), both_biUnion m d g _ (chunks_apart _ _ _),
    show (Finset.univ : Finset (Fin 9)) = {0, 1, 2, 3, 4, 5, 6, 7, 8} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- A chunk of both arrays as the kernel's copies name it. -/
theorem both_chunk (r : Fin 9) (g : Buf (Elt F) (oLoc d)) : (both m d (chunkV L r) g : sProp 𝕄)
    = iprop(((peC L r).view.loc (V d (cV L) (jV L)) ↦[(peC L r).view.set]{fullShare} (m (peLoc d)))
        ∗ (oC L r).view.loc (V d (cV L) (jV L)) ↦[(oC L r).view.set]{fullShare} g) := by
  rw [pts_peC, pts_oC]; rfl

/-- A chunk of the result written whole with the table's chunk holds the table there. -/
theorem chunkV_done (r : Fin 9) (g : Buf (Elt F) (oLoc d)) (w : S16x1024.Idx → Elt F .f32) (hw : w = (peC L r).view.read (Elt F) (m (peLoc d))) :
    ((oC L r).view.loc (V d (cV L) (jV L)) ↦[(oC L r).view.set]{fullShare} (oC L r).view.writes (Elt F) g [⟨Rect.whole S16x1024, w⟩] : sProp 𝕄)
      = ((oC L r).view.loc (V d (cV L) (jV L)) ↦[(oC L r).view.set]{fullShare} (copied m d)) :=
  pts_of_read (V d (cV L) (jV L)) (oC L r).view _ _ ((View.read_writes_whole _ _ _).trans hw)

/-- What a local buffer is read for after it was written whole. -/
theorem bufV_read {b : Ref sig .scVector} (g w : b.ty.Contents (Elt F)) :
    (Memref.whole b).view.read (Elt F) ((Memref.whole b).view.write (Elt F) g w Finset.univ) = w :=
  View.read_write_univ (v := (Memref.whole b).view) g w

set_option maxHeartbeats 1000000 in
theorem tile_body (hF : (K (F := F)).Facts) (O : CellTallies nD τ sig (HIx 1)) (W : Waits sig (HIx 1)) (hO : ∀ g, O g none = 0) :
    iprop(levAts (K (F := F)).L (K (F := F)).lev ∗ emp ∗ both m d (tileRows (L 0).val (L 1).val) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_tec_fn L (Memref.whole main_arg1_scv) (Memref.isWhole_whole _) (Memref.whole main_v0_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scoped0) (Memref.isWhole_whole _) (Memref.whole cc0_scoped1) (Memref.isWhole_whole _) (Memref.whole cc0_scoped2) (Memref.isWhole_whole _)
            cc0_scoped3 cc0_scoped4 cc0_scoped5 cc0_scoped6 cc0_scoped7 cc0_scoped8)
          fun _ => iprop(both m d (tileRows (L 0).val (L 1).val) (copied m d) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_tec_fn_eq_skeleton]; unfold cc0_tec_fn_skel
  simp only [k0_part1_eq_skeleton, k0_part2_eq_skeleton, k0_part3_eq_skeleton]; unfold k0_part1_skel k0_part2_skel k0_part3_skel
  rw [(K (F := F)).scopedBufs_V hF d (cV L) (jV L), SparseCore.Cfg.scopedSems0_V (Val := Elt F) d (cV L) (jV L), ownSems_tile, ownBufs_tile,
    both_tile, both_tile]
  rw [both_chunk, both_chunk, both_chunk, both_chunk, both_chunk, both_chunk, both_chunk, both_chunk, both_chunk]
  iintro ⟨#Hlv, -, ⟨⟨Hp0, Ho0⟩, ⟨Hp1, Ho1⟩, ⟨Hp2, Ho2⟩, ⟨Hp3, Ho3⟩, ⟨Hp4, Ho4⟩, ⟨Hp5, Ho5⟩, ⟨Hp6, Ho6⟩, ⟨Hp7, Ho7⟩, ⟨Hp8, Ho8⟩⟩,
    ⟨⟨⟨%f0, Hb0⟩, ⟨%f1, Hb1⟩, ⟨%f2, Hb2⟩⟩, Hbufs⟩, ⟨⟨Hs3, Hs4, Hs5, Hs6, Hs7, Hs8⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Ho0' := (Entails.of_eq (chunkV_done m d L 0 _ _ (by unfold tile_body.sl.dma0_3; exact bufV_read _ _))) $$ Ho0
  ihave Ho1' := (Entails.of_eq (chunkV_done m d L 1 _ _ (by unfold tile_body.sl.dma0_5; exact bufV_read _ _))) $$ Ho1
  ihave Ho2' := (Entails.of_eq (chunkV_done m d L 2 _ _ (by unfold tile_body.sl.dma0_7; exact bufV_read _ _))) $$ Ho2
  ihave Ho3' := (Entails.of_eq (chunkV_done m d L 3 _ _ (by unfold tile_body.sl.dma0_9; exact bufV_read _ _))) $$ Ho3
  ihave Ho4' := (Entails.of_eq (chunkV_done m d L 4 _ _ (by unfold tile_body.sl.dma0_11; exact bufV_read _ _))) $$ Ho4
  ihave Ho5' := (Entails.of_eq (chunkV_done m d L 5 _ _ (by unfold tile_body.sl.dma0_13; exact bufV_read _ _))) $$ Ho5
  ihave Ho6' := (Entails.of_eq (chunkV_done m d L 6 _ _ (by unfold tile_body.sl.dma0_15; exact bufV_read _ _))) $$ Ho6
  ihave Ho7' := (Entails.of_eq (chunkV_done m d L 7 _ _ (by unfold tile_body.sl.dma0_16; exact bufV_read _ _))) $$ Ho7
  ihave Ho8' := (Entails.of_eq (chunkV_done m d L 8 _ _ (by unfold tile_body.sl.dma0_17; exact bufV_read _ _))) $$ Ho8
  sl_step
  isplitl [Hp0 Ho0' Hp1 Ho1' Hp2 Ho2' Hp3 Ho3' Hp4 Ho4' Hp5 Ho5' Hp6 Ho6' Hp7 Ho7' Hp8 Ho8']
  · isplitl [Hp0 Ho0']; · (iapply (Entails.of_eq (both_chunk m d L 0 (copied m d)).symm); isplitl [Hp0] <;> iassumption)
    isplitl [Hp1 Ho1']; · (iapply (Entails.of_eq (both_chunk m d L 1 (copied m d)).symm); isplitl [Hp1] <;> iassumption)
    isplitl [Hp2 Ho2']; · (iapply (Entails.of_eq (both_chunk m d L 2 (copied m d)).symm); isplitl [Hp2] <;> iassumption)
    isplitl [Hp3 Ho3']; · (iapply (Entails.of_eq (both_chunk m d L 3 (copied m d)).symm); isplitl [Hp3] <;> iassumption)
    isplitl [Hp4 Ho4']; · (iapply (Entails.of_eq (both_chunk m d L 4 (copied m d)).symm); isplitl [Hp4] <;> iassumption)
    isplitl [Hp5 Ho5']; · (iapply (Entails.of_eq (both_chunk m d L 5 (copied m d)).symm); isplitl [Hp5] <;> iassumption)
    isplitl [Hp6 Ho6']; · (iapply (Entails.of_eq (both_chunk m d L 6 (copied m d)).symm); isplitl [Hp6] <;> iassumption)
    isplitl [Hp7 Ho7']; · (iapply (Entails.of_eq (both_chunk m d L 7 (copied m d)).symm); isplitl [Hp7] <;> iassumption)
    iapply (Entails.of_eq (both_chunk m d L 8 (copied m d)).symm); isplitl [Hp8] <;> iassumption
  isplitl [Hb0 Hb1 Hb2 Hbufs]
  · isplitr [Hbufs]
    · isplitl [Hb0]; · (iexists _; iexact Hb0)
      isplitl [Hb1]; · (iexists _; iexact Hb1)
      iexists _; iexact Hb2
    iexact Hbufs
  isplitl [Hs3 Hs4 Hs5 Hs6 Hs7 Hs8 Hsems]
  · isplitr [Hsems]
    · isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists _; isplitr
  swap; · iexact HO
  ipureintro; intro p hp
  iterate 18 (rcases Finset.mem_insert.mp hp with hp | hp; · exact .inr (.inl (hp ▸ rfl)))
  exact .inl hp

end Cert.Proof.PosEmb
-- ==== Proof.Seq.lean ====
/-
  A sequencer's kernel: seven chunks of 256 rows, read into four buffers of the SparseCore's shared memory in turn and
  written out from them.
-/
module

public import proofs.«01_k».proof.Proof.Setup

@[expose] public section

noncomputable section

namespace Cert.Proof.PosEmb

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid1.Coords)

/-- The SparseCore at coordinates `L`. -/
abbrev cS : Fin τ.nSC := (L 0).castLE hcore1

/-- Chunk `r` of the sequencer's rows, of the table and of the call's result. -/
abbrev peQ (r : Fin 7) : Memref sig .scScalar .hbm S256x1024 .f32 :=
  (Memref.whole main_arg1_scs).slice (Rect.unit (s := S8192x1024) (k1_off1 L (BitVec.ofNat 32 (256 * r.val))) S256x1024.size (k1_off1_inb L r)) (fun _ => rfl)
abbrev oQ (r : Fin 7) : Memref sig .scScalar .hbm S256x1024 .f32 :=
  (Memref.whole main_v0_scs).slice (Rect.unit (s := S8192x1024) (k1_off1 L (BitVec.ofNat 32 (256 * r.val))) S256x1024.size (k1_off1_inb L r)) (fun _ => rfl)

/-- The rows of chunk `r`. -/
abbrev chunkQ (r : Fin 7) : Finset S8192x1024.Idx := rows (1792 * (L 0).val + 4608 + 256 * r.val) 256

theorem chunkQ_set (r : Fin 7) :
    (Rect.unit (s := S8192x1024) (k1_off1 L (BitVec.ofNat 32 (256 * r.val))) S256x1024.size (k1_off1_inb L r)).set = chunkQ L r :=
  unit_rows _ _ (by rw [k1_off1_eq]; exact Nat.add_right_comm _ _ _) (by rw [k1_off1_eq]; rfl) rfl rfl

theorem peQ_set (r : Fin 7) : (peQ L r).view.set = chunkQ L r := (View.set_slice_whole _ _).trans (chunkQ_set L r)
theorem oQ_set (r : Fin 7) : (oQ L r).view.set = chunkQ L r := (View.set_slice_whole _ _).trans (chunkQ_set L r)

theorem pts_peQ (r : Fin 7) (f : Buf (Elt F) (peLoc d)) :
    ((peQ L r).view.loc (S d (cS L)) ↦[(peQ L r).view.set]{fullShare} f : sProp 𝕄) = (peLoc d ↦[chunkQ L r]{fullShare} f) := by
  rw [peQ_set]
theorem pts_oQ (r : Fin 7) (f : Buf (Elt F) (oLoc d)) :
    ((oQ L r).view.loc (S d (cS L)) ↦[(oQ L r).view.set]{fullShare} f : sProp 𝕄) = (oLoc d ↦[chunkQ L r]{fullShare} f) := by
  rw [oQ_set]

/-- A sequencer's buffers and its counters, those of its kernel apart. -/
theorem ownBufs_seq : (ownBufs (S d (cS L)) : sProp 𝕄)
    = iprop(((∃ f, (Memref.whole cc0_scratch0).view.loc (S d (cS L)) ↦{fullShare} f) ∗ (∃ f, (Memref.whole cc0_scratch1).view.loc (S d (cS L)) ↦{fullShare} f)
          ∗ (∃ f, (Memref.whole cc0_scratch2).view.loc (S d (cS L)) ↦{fullShare} f) ∗ (∃ f, (Memref.whole cc0_scratch3).view.loc (S d (cS L)) ↦{fullShare} f))
        ∗ bigSep (ownRefs (τ := τ) (.scScalar (cS L)) \ ({cc0_scratch0, cc0_scratch1, cc0_scratch2, cc0_scratch3} : Finset (Ref sig .scScalar)).image (Proc.scScalar (cS L)).devRef) fun b => iprop(∃ f, ((d, b) : Loc nD τ sig) ↦{fullShare} f)) := by
  refine (ownBufs_apart d (.scScalar (cS L)) {cc0_scratch0, cc0_scratch1, cc0_scratch2, cc0_scratch3} fun b hb => ?_).trans ?_
  · simp only [Finset.mem_insert, Finset.mem_singleton] at hb
    rcases hb with rfl | rfl | rfl | rfl <;> exact mem_ownRefs.mpr rfl
  · rw [SparseCore.bigSep_insert' (show cc0_scratch0 ∉ ({cc0_scratch1, cc0_scratch2, cc0_scratch3} : Finset (Ref sig .scScalar)) by decide),
      SparseCore.bigSep_insert' (show cc0_scratch1 ∉ ({cc0_scratch2, cc0_scratch3} : Finset (Ref sig .scScalar)) by decide),
      SparseCore.bigSep_insert' (show cc0_scratch2 ∉ ({cc0_scratch3} : Finset (Ref sig .scScalar)) by decide), bigSep_singleton]

/-- The counters of a sequencer's kernel. -/
abbrev cellsQ : Finset (SemLoc sig) :=
  {.dma cc1_scoped0.sem, .dma cc1_scoped1.sem, .dma cc1_scoped2.sem, .dma cc1_scoped3.sem, .dma cc1_scoped4.sem, .dma cc1_scoped5.sem, .dma cc1_scoped6.sem, .dma cc1_scoped7.sem}

theorem ownSems_seq : (ownSems0 (S d (cS L)) : sProp 𝕄)
    = iprop((semVal (S d (cS L), .dma cc1_scoped0.sem) 0 ∗ semVal (S d (cS L), .dma cc1_scoped1.sem) 0 ∗ semVal (S d (cS L), .dma cc1_scoped2.sem) 0 ∗ semVal (S d (cS L), .dma cc1_scoped3.sem) 0 ∗ semVal (S d (cS L), .dma cc1_scoped4.sem) 0 ∗ semVal (S d (cS L), .dma cc1_scoped5.sem) 0 ∗ semVal (S d (cS L), .dma cc1_scoped6.sem) 0 ∗ semVal (S d (cS L), .dma cc1_scoped7.sem) 0)
        ∗ bigSep (ownCells (S d (cS L)) \ cellsQ.image fun c => (S d (cS L), c)) fun g => semVal g 0) := by
  refine (ownSems0_apart (S d (cS L)) cellsQ fun c hc => mem_ownCells.mpr ⟨rfl, ?_⟩).trans ?_
  · exact (show ∀ c ∈ cellsQ, c.isScoped .scScalar = true by decide) c hc
  · rw [SparseCore.bigSep_insert' (show SemLoc.dma cc1_scoped0.sem ∉ ({.dma cc1_scoped1.sem, .dma cc1_scoped2.sem, .dma cc1_scoped3.sem, .dma cc1_scoped4.sem, .dma cc1_scoped5.sem, .dma cc1_scoped6.sem, .dma cc1_scoped7.sem} : Finset (SemLoc sig)) by decide),
      SparseCore.bigSep_insert' (show SemLoc.dma cc1_scoped1.sem ∉ ({.dma cc1_scoped2.sem, .dma cc1_scoped3.sem, .dma cc1_scoped4.sem, .dma cc1_scoped5.sem, .dma cc1_scoped6.sem, .dma cc1_scoped7.sem} : Finset (SemLoc sig)) by decide),
      SparseCore.bigSep_insert' (show SemLoc.dma cc1_scoped2.sem ∉ ({.dma cc1_scoped3.sem, .dma cc1_scoped4.sem, .dma cc1_scoped5.sem, .dma cc1_scoped6.sem, .dma cc1_scoped7.sem} : Finset (SemLoc sig)) by decide),
      SparseCore.bigSep_insert' (show SemLoc.dma cc1_scoped3.sem ∉ ({.dma cc1_scoped4.sem, .dma cc1_scoped5.sem, .dma cc1_scoped6.sem, .dma cc1_scoped7.sem} : Finset (SemLoc sig)) by decide),
      SparseCore.bigSep_insert' (show SemLoc.dma cc1_scoped4.sem ∉ ({.dma cc1_scoped5.sem, .dma cc1_scoped6.sem, .dma cc1_scoped7.sem} : Finset (SemLoc sig)) by decide),
      SparseCore.bigSep_insert' (show SemLoc.dma cc1_scoped5.sem ∉ ({.dma cc1_scoped6.sem, .dma cc1_scoped7.sem} : Finset (SemLoc sig)) by decide),
      SparseCore.bigSep_insert' (show SemLoc.dma cc1_scoped6.sem ∉ ({.dma cc1_scoped7.sem} : Finset (SemLoc sig)) by decide), bigSep_singleton]

/-- The sequencer's rows are its seven chunks. -/
theorem both_seq (g : Buf (Elt F) (oLoc d)) : (both m d (seqRows (L 0).val) g : sProp 𝕄)
    = iprop(both m d (chunkQ L 0) g ∗ both m d (chunkQ L 1) g ∗ both m d (chunkQ L 2) g ∗ both m d (chunkQ L 3) g ∗ both m d (chunkQ L 4) g
        ∗ both m d (chunkQ L 5) g ∗ both m d (chunkQ L 6) g) := by
  unfold seqRows
  rw [← chunks_cover (1792 * (L 0).val + 4608) 256 7 1792 (by decide) (by decide), both_biUnion m d g _ (chunks_apart _ _ _),
    show (Finset.univ : Finset (Fin 7)) = {0, 1, 2, 3, 4, 5, 6} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- A chunk of both arrays as the kernel's copies name it. -/
theorem both_chunkQ (r : Fin 7) (g : Buf (Elt F) (oLoc d)) : (both m d (chunkQ L r) g : sProp 𝕄)
    = iprop(((peQ L r).view.loc (S d (cS L)) ↦[(peQ L r).view.set]{fullShare} (m (peLoc d)))
        ∗ (oQ L r).view.loc (S d (cS L)) ↦[(oQ L r).view.set]{fullShare} g) := by
  rw [pts_peQ, pts_oQ]; rfl

/-- A chunk of the result written whole with the table's chunk holds the table there. -/
theorem chunkQ_done (r : Fin 7) (g : Buf (Elt F) (oLoc d)) (w : S256x1024.Idx → Elt F .f32) (hw : w = (peQ L r).view.read (Elt F) (m (peLoc d))) :
    ((oQ L r).view.loc (S d (cS L)) ↦[(oQ L r).view.set]{fullShare} (oQ L r).view.writes (Elt F) g [⟨Rect.whole S256x1024, w⟩] : sProp 𝕄)
      = ((oQ L r).view.loc (S d (cS L)) ↦[(oQ L r).view.set]{fullShare} (copied m d)) :=
  pts_of_read (S d (cS L)) (oQ L r).view _ _ ((View.read_writes_whole _ _ _).trans hw)

/-- What a shared buffer is read for after it was written whole. -/
theorem bufQ_read {b : Ref sig .scScalar} (g w : b.ty.Contents (Elt F)) :
    (Memref.whole b).view.read (Elt F) ((Memref.whole b).view.write (Elt F) g w Finset.univ) = w :=
  View.read_write_univ (v := (Memref.whole b).view) g w

set_option maxHeartbeats 1000000 in
theorem seq_body (O : CellTallies nD τ sig (HIx 1)) (W : Waits sig (HIx 1)) (hO : ∀ g, O g none = 0) :
    iprop(levAts (K (F := F)).L (K (F := F)).lev ∗ (both m d (seqRows (L 0).val) (m (oLoc d)) ∗ ownBufs (S d (cS L)) ∗ ownSems0 (S d (cS L)))
        ∗ owes (S d (cS L)) O W)
      ⊢ wp frame (wpE (defs₀ (F := F)) 𝒱₀ (S d (cS L)) none) Set.univ
          (cc1_scs_fn L (Memref.whole main_arg1_scs) (Memref.isWhole_whole _) (Memref.whole main_v0_scs) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc1_scoped0 cc1_scoped1 cc1_scoped2 cc1_scoped3 cc1_scoped4 cc1_scoped5 cc1_scoped6 cc1_scoped7)
          fun _ => iprop((both m d (seqRows (L 0).val) (copied m d) ∗ ownBufs (S d (cS L))) ∗ ownSems0 (S d (cS L))
            ∗ ∃ W', ⌜∀ p ∈ W', p ∈ W ∨ p.2 = none ∨ p.2 = some (0 : Fin 1)⌝ ∗ owes (S d (cS L)) O W') := by
  simp only [cc1_scs_fn_eq_skeleton]; unfold cc1_scs_fn_skel
  simp only [k1_part1_eq_skeleton]; unfold k1_part1_skel
  rw [ownSems_seq, ownBufs_seq, both_seq, both_seq]
  rw [both_chunkQ, both_chunkQ, both_chunkQ, both_chunkQ, both_chunkQ, both_chunkQ, both_chunkQ]
  iintro ⟨#Hlv, ⟨⟨⟨Hp0, Ho0⟩, ⟨Hp1, Ho1⟩, ⟨Hp2, Ho2⟩, ⟨Hp3, Ho3⟩, ⟨Hp4, Ho4⟩, ⟨Hp5, Ho5⟩, ⟨Hp6, Ho6⟩⟩,
    ⟨⟨⟨%f0, Hb0⟩, ⟨%f1, Hb1⟩, ⟨%f2, Hb2⟩, ⟨%f3, Hb3⟩⟩, Hbufs⟩, ⟨⟨Hs0, Hs1, Hs2, Hs3, Hs4, Hs5, Hs6, Hs7⟩, Hsems⟩⟩, HO⟩
  ihave Hmw := (show levAts (K (F := F)).L (K (F := F)).lev ⊢ Transfers.MayWaits (S d (cS L)) (default : HIx 1) O from
    (K (F := F)).mayWaits_none (thr := S d (cS L)) hO) $$ Hlv
  sl_exec
  ihave Ho0' := (Entails.of_eq (chunkQ_done m d L 0 _ _ (by unfold seq_body.sl.dma0_4; exact bufQ_read _ _))) $$ Ho0
  ihave Ho1' := (Entails.of_eq (chunkQ_done m d L 1 _ _ (by unfold seq_body.sl.dma0_6; exact bufQ_read _ _))) $$ Ho1
  ihave Ho2' := (Entails.of_eq (chunkQ_done m d L 2 _ _ (by unfold seq_body.sl.dma0_8; exact bufQ_read _ _))) $$ Ho2
  ihave Ho3' := (Entails.of_eq (chunkQ_done m d L 3 _ _ (by unfold seq_body.sl.dma0_10; exact bufQ_read _ _))) $$ Ho3
  ihave Ho4' := (Entails.of_eq (chunkQ_done m d L 4 _ _ (by unfold seq_body.sl.dma0_11; exact bufQ_read _ _))) $$ Ho4
  ihave Ho5' := (Entails.of_eq (chunkQ_done m d L 5 _ _ (by unfold seq_body.sl.dma0_12; exact bufQ_read _ _))) $$ Ho5
  ihave Ho6' := (Entails.of_eq (chunkQ_done m d L 6 _ _ (by unfold seq_body.sl.dma0_13; exact bufQ_read _ _))) $$ Ho6
  sl_step
  isplitr [Hs0 Hs1 Hs2 Hs3 Hs4 Hs5 Hs6 Hs7 Hsems HO]
  · isplitl [Hp0 Ho0' Hp1 Ho1' Hp2 Ho2' Hp3 Ho3' Hp4 Ho4' Hp5 Ho5' Hp6 Ho6']
    · isplitl [Hp0 Ho0']; · (iapply (Entails.of_eq (both_chunkQ m d L 0 (copied m d)).symm); isplitl [Hp0] <;> iassumption)
      isplitl [Hp1 Ho1']; · (iapply (Entails.of_eq (both_chunkQ m d L 1 (copied m d)).symm); isplitl [Hp1] <;> iassumption)
      isplitl [Hp2 Ho2']; · (iapply (Entails.of_eq (both_chunkQ m d L 2 (copied m d)).symm); isplitl [Hp2] <;> iassumption)
      isplitl [Hp3 Ho3']; · (iapply (Entails.of_eq (both_chunkQ m d L 3 (copied m d)).symm); isplitl [Hp3] <;> iassumption)
      isplitl [Hp4 Ho4']; · (iapply (Entails.of_eq (both_chunkQ m d L 4 (copied m d)).symm); isplitl [Hp4] <;> iassumption)
      isplitl [Hp5 Ho5']; · (iapply (Entails.of_eq (both_chunkQ m d L 5 (copied m d)).symm); isplitl [Hp5] <;> iassumption)
      iapply (Entails.of_eq (both_chunkQ m d L 6 (copied m d)).symm); isplitl [Hp6] <;> iassumption
    isplitr [Hbufs]
    · isplitl [Hb0]; · (iexists _; iexact Hb0)
      isplitl [Hb1]; · (iexists _; iexact Hb1)
      isplitl [Hb2]; · (iexists _; iexact Hb2)
      iexists _; iexact Hb3
    iexact Hbufs
  isplitl [Hs0 Hs1 Hs2 Hs3 Hs4 Hs5 Hs6 Hs7 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    iexact Hsems
  iexists _; isplitr
  swap; · iexact HO
  ipureintro; intro p hp
  iterate 14 (rcases Finset.mem_insert.mp hp with hp | hp; · exact .inr (.inl (hp ▸ rfl)))
  exact .inl hp

end Cert.Proof.PosEmb
-- ==== Proof.Launch.lean ====
/-
  The whole program: what the call hands its threads and takes back, each body placed in the call, the TensorCore's
  line, and the run.
-/
module

public import proofs.«01_k».proof.Proof.Tile
public import proofs.«01_k».proof.Proof.Seq

@[expose] public section

noncomputable section

namespace Cert.Proof.PosEmb

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call hands over -/

/-- A SparseCore is handed its rows of both arrays and brings them back with the table in the result; so is each of its tiles. -/
def P : (K (F := F)).Pay (nD := nD) (Val := Elt F) (Name := ℕ) (U := UU) where
  st := fun q d c => match q with | 0 => both m d (coreRows c.val) (m (oLoc d))
  dn := fun q d c => match q with | 0 => both m d (coreRows c.val) (copied m d)
  go := fun q d c i => match q with | 0 => both m d (tileRows c.val i.val) (m (oLoc d))
  td := fun q d c i => match q with | 0 => both m d (tileRows c.val i.val) (copied m d)
  x := fun _ _ => iprop(emp)

instance P_storable : (P (F := F) m).IsStorable where
  st q d c := match q with | 0 => both_storable m d (coreRows c.val) (m (oLoc d))
  dn q d c := match q with | 0 => both_storable m d (coreRows c.val) (copied m d)
  go q d c i := match q with | 0 => both_storable m d (tileRows c.val i.val) (m (oLoc d))
  td q d c i := match q with | 0 => both_storable m d (tileRows c.val i.val) (copied m d)

/-- The sequencers' kernels take on no debt. -/
abbrev Os : (q : Fin 1) → Dev nD → Fin ((K (F := F)).nCore q) → CellTallies nD τ sig (HIx 1) := fun _ _ _ => 0
/-- A sequencer's kernel is handed its rows, its SparseCore's buffers and its own counters, -/
abbrev Xs (q : Fin 1) (d : Dev nD) (c : Fin ((K (F := F)).nCore q)) : sProp 𝕄 :=
  iprop(both m d (seqRows c.val) (m (oLoc d)) ∗ ownBufs (S d ((K (F := F)).core q c)) ∗ ownSems0 (S d ((K (F := F)).core q c)))
/-- and brings the rows back with the table in the result. -/
abbrev Ys (q : Fin 1) (d : Dev nD) (c : Fin ((K (F := F)).nCore q)) : sProp 𝕄 :=
  iprop(both m d (seqRows c.val) (copied m d) ∗ ownBufs (S d ((K (F := F)).core q c)))

theorem hOs : ∀ (q : Fin 1) (d : Dev nD) (c : Fin ((K (F := F)).nCore q)) (g : GSem nD τ sig) (ι : HIx 1), 0 < Os (F := F) q d c g ι → 8 * q.val + 3 ≤ (K (F := F)).lev g ι :=
  fun _ _ _ _ _ h => absurd h (Nat.lt_irrefl 0)

/-! ## The bodies in the call -/

def coordsV (c : Fin (grid0.bound 0)) (s : Fin (grid0.bound 1)) : grid0.Coords :=
  fun | 0 => c | 1 => s | ⟨_ + 2, h⟩ => absurd h (Nat.not_lt.2 (Nat.le_add_left _ _))

def coordsS (c : Fin (grid1.bound 0)) : grid1.Coords :=
  fun | 0 => c | ⟨_ + 1, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_tec_fn (coordsV c s)
          (Memref.whole main_arg1_scv) (Memref.isWhole_whole _) (Memref.whole main_v0_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scoped0) (Memref.isWhole_whole _) (Memref.whole cc0_scoped1) (Memref.isWhole_whole _) (Memref.whole cc0_scoped2) (Memref.isWhole_whole _)
          cc0_scoped3 cc0_scoped4 cc0_scoped5 cc0_scoped6 cc0_scoped7 cc0_scoped8) ⟨⟩ c s := rfl

theorem defs₀_scalar (c : Fin τ.nSC) :
    defs₀ (F := F) (.scScalar c) 1 ()
      = SparseCore.onCore hcore1 (fun c => cc1_scs_fn (coordsS c)
          (Memref.whole main_arg1_scs) (Memref.isWhole_whole _) (Memref.whole main_v0_scs) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc1_scoped0 cc1_scoped1 cc1_scoped2 cc1_scoped3 cc1_scoped4 cc1_scoped5 cc1_scoped6 cc1_scoped7) ⟨⟩ c := rfl

set_option maxRecDepth 16384 in
theorem tileObl (hF : (K (F := F)).Facts) : (K (F := F)).TileObl (D (F := F)) 𝒱 (P m) v₀ 0 := by
  intro d c i O W hO _ _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

set_option maxRecDepth 16384 in
theorem seqObl : (K (F := F)).SeqObl₃ (D (F := F)) 𝒱 (Os (F := F)) (Xs m) (Ys m) v₀ 0 (Pipeline.kernel 1) ⟨⟩ := by
  intro d c O W hO _ _
  have hc : ((K (F := F)).core 0 c).val < grid1.bound 0 := c.isLt
  rw [show Os (F := F) 0 d c = 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  rw [defs₀_scalar]; simp only [SparseCore.onCore, hc, ↓reduceDIte]
  exact seq_body m d (coordsS ⟨_, hc⟩) O W hO

/-! ## The rows dealt to the threads and gathered -/

theorem vecSplit : (K (F := F)).VecSplit₃ (P m) (Os (F := F)) (Xs m) (Ys m) 0 := by
  intro d c
  show iprop(emp ∗ both m d (coreRows c.val) (m (oLoc d)) ∗ ownBufs (S d ((K (F := F)).core 0 c)) ∗ cred (Os (F := F) 0 d c)
        ∗ ownSems0 (S d ((K (F := F)).core 0 c)) ∗ bigSep Finset.univ fun i : Fin ((K (F := F)).nSub 0) => scopedSems0 (V d ((K (F := F)).core 0 c) ((K (F := F)).sub 0 i)))
      ⊢ |={Set.univ}=> iprop((bigSep Finset.univ fun i : Fin ((K (F := F)).nSub 0) => scopedSems0 (V d ((K (F := F)).core 0 c) ((K (F := F)).sub 0 i)))
      ∗ (bigSep Finset.univ fun s : Fin 16 => both m d (tileRows c.val s.val) (m (oLoc d)))
      ∗ (both m d (seqRows c.val) (m (oLoc d)) ∗ ownBufs (S d ((K (F := F)).core 0 c)) ∗ ownSems0 (S d ((K (F := F)).core 0 c)))
      ∗ (iprop((bigSep Finset.univ fun s : Fin 16 => both m d (tileRows c.val s.val) (copied m d)) ∗ both m d (seqRows c.val) (copied m d) ∗ ownBufs (S d ((K (F := F)).core 0 c)))
          -∗ iprop(both m d (coreRows c.val) (copied m d) ∗ ownBufs (S d ((K (F := F)).core 0 c)))))
  iintro ⟨-, Hst, Hb, -, Hown, Hts⟩
  ihave Hd := (both_core_deal m d (m (oLoc d)) c.val c.isLt) $$ Hst
  icases Hd with ⟨Ht, Hq⟩
  imodintro
  isplitl [Hts]; · iexact Hts
  isplitl [Ht]; · iexact Ht
  isplitl [Hq Hb Hown]
  · isplitl [Hq]; · iexact Hq
    isplitl [Hb] <;> iassumption
  iintro ⟨Ht, Hq, Hb⟩
  isplitr [Hb]
  · iapply (both_core_gather m d (copied m d) c.val c.isLt)
    isplitl [Ht] <;> iassumption
  iexact Hb

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : iprop(ownU (u₀ (F := F)) ∗ (P (F := F) m).oxCred ∗ (K (F := F)).freeOn (· ∈ (∅ : Finset (GSem nD τ sig))) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, -, -, -⟩
  ihave H := (ownU_pair (initOf (K (F := F)).hsCells (K (F := F)).hsToks) (1 : Counters)) $$ Hu
  icases H with ⟨HH, -⟩
  imodintro
  isplitl [HH]; · iexact HH
  isplitr; · rw [bigSep_emp']; iempintro
  show _ ⊢ (bigSep Finset.univ fun _ : Thread nD τ => bigSep Finset.univ fun _ : Fin 1 => iprop(emp))
  rw [bigSep_emp', bigSep_emp']

/-! ## The TensorCore's line -/

abbrev a' : DevRef τ sig := Proc.devRef .tc (main_arg0 : Ref sig .tc)
abbrev pe' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev S4 : Finset (DevRef τ sig) := {a', pe', o', r'}

/-- The one host operation: the call's result with a leading axis of one. -/
abbrev opBc : HloOp τ sig (Elt F) :=
  StableHlo.unary main_v0 main_v1 (broadcastInDim S1x8192x1024 ![1, 2] bcast_S8192x1024_S1x8192x1024_1_2 : (⟨S8192x1024, .f32⟩ : BufTy).Contents (Elt F) → (⟨S1x8192x1024, .f32⟩ : BufTy).Contents (Elt F))

/-- What `@main` leaves in its result: the table with a leading axis of one. -/
abbrev Rv (d : Dev nD) : Buf (Elt F) (rLoc d) :=
  (broadcastInDim S1x8192x1024 ![1, 2] bcast_S8192x1024_S1x8192x1024_1_2 : (⟨S8192x1024, .f32⟩ : BufTy).Contents (Elt F) → (⟨S1x8192x1024, .f32⟩ : BufTy).Contents (Elt F)) (copied m d)

theorem held_S4 (d : Dev nD) (W : Valuation τ sig (Elt F)) :
    (held (T d) S4 W : sProp 𝕄)
      = iprop((aLoc d ↦{fullShare} W a') ∗ (peLoc d ↦{fullShare} W pe') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (peLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays at the launch, and after the call. -/
def V0 (d : Dev nD) : Valuation τ sig (Elt F) := fun b => m (d, b)
def V1 (d : Dev nD) : Valuation τ sig (Elt F) := Function.update (V0 m d) o' (copied m d)

theorem V1_a (d : Dev nD) : V1 m d a' = m (aLoc d) := Function.update_of_ne (show a' ≠ o' by decide) _ _
theorem V1_pe (d : Dev nD) : V1 m d pe' = m (peLoc d) := Function.update_of_ne (show pe' ≠ o' by decide) _ _
theorem V1_o (d : Dev nD) : V1 m d o' = copied m d := Function.update_self _ _ _
theorem V1_r (d : Dev nD) : V1 m d r' = m (rLoc d) := Function.update_of_ne (show r' ≠ o' by decide) _ _

theorem hBc : (opBc (F := F)).bufs ⊆ S4 := show ({o', r'} : Finset (DevRef τ sig)) ⊆ S4 by decide

/-- The four arrays after the host operation. -/
theorem held_end (d : Dev nD) :
    (held (T d) S4 ((opBc (F := F)).result (V1 m d)) : sProp 𝕄)
      = iprop((aLoc d ↦{fullShare} m (aLoc d)) ∗ (peLoc d ↦{fullShare} m (peLoc d)) ∗ (oLoc d ↦{fullShare} copied m d) ∗ rLoc d ↦{fullShare} Rv m d) := by
  rw [held_S4, (opBc (F := F)).result_of_not_mem (V1 m d) (b := a') (show a' ∉ ({r'} : Finset (DevRef τ sig)) by decide),
    (opBc (F := F)).result_of_not_mem (V1 m d) (b := pe') (show pe' ∉ ({r'} : Finset (DevRef τ sig)) by decide),
    (opBc (F := F)).result_of_not_mem (V1 m d) (b := o') (show o' ∉ ({r'} : Finset (DevRef τ sig)) by decide), V1_a, V1_pe, V1_o,
    show (opBc (F := F)).result (V1 m d) r' = Rv m d from (StableHlo.unary_result _ _ _ _ _ _).trans (by rw [V1_o])]

theorem st0_eq (d : Dev nD) : (bigSep Finset.univ fun c : Fin ((K (F := F)).nCore 0) => (P m).st 0 d c)
    = iprop((peLoc d ↦{fullShare} m (peLoc d)) ∗ oLoc d ↦{fullShare} m (oLoc d)) := (both_whole m d (m (oLoc d))).symm
theorem dn0_eq (d : Dev nD) : (bigSep Finset.univ fun c : Fin ((K (F := F)).nCore 0) => (P m).dn 0 d c)
    = iprop((peLoc d ↦{fullShare} m (peLoc d)) ∗ oLoc d ↦{fullShare} copied m d) := (both_whole m d (copied m d)).symm

/-- What `@main` leaves the claims: both arguments, and the result. -/
abbrev FIN (d : Dev nD) : sProp 𝕄 := iprop((aLoc d ↦{fullShare} m (aLoc d)) ∗ (peLoc d ↦{fullShare} m (peLoc d)) ∗ rLoc d ↦{fullShare} Rv m d)

/-- `@main` on a TensorCore: the call, then the host operation. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  rw [show (sc (F := F)).run (nD := nD) (Val := Elt F) d 0 = (K (F := F)).run d 0 from rfl]
  iintro ⟨#Hctx, Hst, ⟨Hb, ⟨Ha, Hp, Ho, Hr⟩, Hts, -⟩, -⟩
  iapply ((K (F := F)).wp_run (D (F := F)) 𝒱 (EH := EH) (P := P m) κ d 0) $$ [Hst Ha Hp Ho Hr Hb Hts]
  isplitr; · iexact Hctx
  isplitl [Hst]; · iexact Hst
  isplitl [Hp Ho]
  · rw [st0_eq]
    isplitl [Hp]; · iexact Hp
    iexact Ho
  iintro ⟨Hst, Hdn⟩
  ihave Hdn' := (Entails.of_eq (dn0_eq m d)) $$ Hdn
  icases Hdn' with ⟨Hp, Ho⟩
  iapply (wp_hlo_within 𝒱 (SparseCore.T d) none Set.univ (op := opBc) (S := S4) hBc (V := V1 m d)) $$ [Hb Ha Hp Ho Hr]
  · isplitl [Hb]; · iexact Hb
    rw [held_S4, V1_a, V1_pe, V1_o, V1_r]
    isplitl [Ha]; · iexact Ha
    isplitl [Hp]; · iexact Hp
    isplitl [Ho]; · iexact Ho
    iexact Hr
  iintro ⟨Hb, Hheld⟩
  ihave Hh := (Entails.of_eq (held_end m d)) $$ Hheld
  icases Hh with ⟨Ha, Hp, -, Hr⟩
  rw [wp_ret]; imodintro; imodintro
  isplitl [Hst]; · iexact Hst
  isplitr [Hb Hts]
  · isplitl [Ha]; · iexact Ha
    isplitl [Hp]; · iexact Hp
    iexact Hr
  isplitl [Hb] <;> iassumption

/-- What the claims read of a device's final state. -/
def fq (d : Dev nD) (s' : Phys nD τ sig (Elt F)) : Prop :=
  s'.mem.mem (rLoc d) = Rv m d ∧ s'.mem.mem (aLoc d) = m (aLoc d) ∧ s'.mem.mem (peLoc d) = m (peLoc d)

theorem hfin (d : Dev nD) (s' : Phys nD τ sig (Elt F)) : iprop(FIN m d ∗ SI s') ⊢ (⌜fq m d s'⌝ : sProp 𝕄) := by
  iintro ⟨⟨Ha, Hp, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := peLoc d) (I := Finset.univ) (q := fullShare) (f := m (peLoc d)))) $$ [HSI Hp]
  · isplitl [HSI] <;> iassumption
  icases H with ⟨%hp, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => ha i (Finset.mem_univ i), funext fun i => hp i (Finset.mem_univ i)⟩

/-! ## The run -/

def QC : PUnit × MemSt nD τ sig (Elt F) → Prop := fun r =>
  (∀ c : Dev nD, r.2.mem (rLoc c) = Rv m c ∧ r.2.mem (aLoc c) = m (aLoc c) ∧ r.2.mem (peLoc c) = m (peLoc c)) ∧ r.2.sem = fun _ => 0

/-- From any memory and registers with every counter at zero, at any float operations: the program ends on every fair
    schedule without a fault, its result is the table with a leading axis of one, both arguments are as they were, and
    every counter is at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_scoped₂_quiescent (K := K (F := F)) (D := D (F := F)) (𝒱 := 𝒱) (σ := σ (F := F)) (EH := EH) (P := P m)
    (Os := Os (F := F)) (Xs := Xs m) (Ys := Ys m) facts v₀ vD
    (fun q hq => match q with | 0 => nomatch hq)
    (fun q _ => match q with | 0 => (tileObl m facts).to₃ (fun _ _ _ _ => rfl))
    hOs
    (fun q _ => match q with | 0 => vecSplit m)
    (fun q _ => match q with | 0 => SparseCore.Cfg.SeqPartObl₃.of_some (v₁ := v₀) rfl v₀_lt_vD (seqObl m))
    m ρ main (fun _ => iprop(emp)) (FIN m) (u₀ (F := F)) (hu₀ m) (hmain m ρ) (fq m) (hfin m) (QC m) (fun _ h hz => ⟨h, hz⟩)

end Cert.Proof.PosEmb
-- ==== Proof.Ref.lean ====
/-
  The reference's side: looking up row `i` of the table at `i`, for every `i`, is the table itself; so the reference's
  composed term is the table behind one leading axis.
-/
module

public import proofs.«01_k».proof.Proof.Gen.ReferenceIdeal.Run
public import proofs.«01_k».proof.Proof.Gen.Reference.Run
public import Idealize.ShloMosaic.Lib.Routing.Ops
public import Idealize.ShloMosaic.Lib.Quiescent

@[expose] public section

noncomputable section

namespace Cert.Proof.PosEmb.Lookup

open Cert.ReferenceIdeal Cert.ReferenceIdeal.Gen Idealize.ShloMosaic Idealize.ShloMosaic.TcCoe Idealize.SL.Sem

/-- The positions `0, 1, …, 8191`, a negative one counted from the end, as one column. -/
abbrev rowIx : IVec S8192x1 32 :=
  broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0))

/-- Whether each position is a row of the table. -/
abbrev rowOk : IVec S8192x1 1 :=
  andi (cmpi .sge rowIx (broadcastInDim S8192x1 ![] bcast_S_S8192x1 (constantI S_ 32 0#32)))
    (cmpi .sle rowIx (broadcastInDim S8192x1 ![0, 1] bcast_S1x1_S8192x1_0_1 (broadcastInDim S1x1 ![1] bcast_S1_S1x1_1 (constantI S1 32 8191#32))))

/-- No position is negative. -/
theorem not_neg (n : Nat) (h : n < 8192) : (BitVec.ofNat 32 n).slt 0#32 = false := by
  rw [BitVec.slt_eq_decide, StableHlo.Predicate.toInt_ofNat_small n (by omega)]
  exact decide_eq_false (by rw [show (0#32 : BitVec 32).toInt = 0 from rfl]; omega)

/-- Position `i` is `i`. -/
theorem rowIx_apply (j : S8192x1.Idx) : rowIx j = BitVec.ofNat 32 (j 0).val := by
  have hlt : (j 0).val < 8192 := (j 0).isLt
  show Scalar.select (Scalar.cmpi .slt (BitVec.ofNat 32 (j 0).val) 0#32) _ (BitVec.ofNat 32 (j 0).val) = _
  have h : Scalar.cmpi .slt (BitVec.ofNat 32 (j 0).val) 0#32 = 0#1 := by
    show BitVec.ofBool ((BitVec.ofNat 32 (j 0).val).slt 0#32) = 0#1
    rw [not_neg _ hlt]; rfl
  rw [h]; rfl

/-- Every position is a row of the table. -/
theorem rowOk_apply (j : S8192x1.Idx) : rowOk j = 1#1 := by
  have hlt : (j 0).val < 8192 := (j 0).isLt
  show (BitVec.ofBool ((0#32 : BitVec 32).sle (rowIx j))) &&& (BitVec.ofBool ((rowIx j).sle 8191#32)) = 1#1
  rw [rowIx_apply, BitVec.sle_eq_decide, BitVec.sle_eq_decide, StableHlo.Predicate.toInt_ofNat_small (j 0).val (by omega),
    decide_eq_true (by rw [show (0#32 : BitVec 32).toInt = 0 from rfl]; omega),
    decide_eq_true (by rw [show (8191#32 : BitVec 32).toInt = 8191 from rfl]; omega)]
  rfl

/-- Ones and-ed together from one are one. -/
theorem fold_one {ι : Type} (l : List ι) (g : ι → BitVec 1) (hg : ∀ i, g i = 1#1) :
    l.foldl (fun r n => IntOp.andi r (g n)) 1#1 = 1#1 := by
  induction l with
  | nil => rfl
  | cons a l ih => rw [List.foldl_cons, hg a]; exact ih

/-- So no row of the result is masked. -/
theorem mask_apply (j : S8192.Idx) :
    Host.reduce IntOp.andi rowOk (constantI S_ 1 1#1) reducesTo_S8192x1_S8192_d1 h_S_ j = 1#1 :=
  fold_one _ _ fun _ => rowOk_apply _

/-- Reading row `i` of the table at every `i` gives the table. -/
theorem gather_rows {α : Type} (x : S8192x1024.Idx → α) :
    Host.gather gather_S8192x1024_S8192x1_S8192x1024_1_0_n_n_0_1_11024 x rowIx = x := by
  funext j
  rw [ValueIdx.eq_ix2 j]
  exact Routing.gather_row gather_S8192x1024_S8192x1_S8192x1024_1_0_n_n_0_1_11024 rfl rfl rfl rfl rfl x rowIx (j 0) (j 1) (j 0)
    (rowIx_apply _) (by decide)

/-- The looked-up table is the table. -/
theorem lookup_eq {α : Type} (x z : S8192x1024.Idx → α) :
    select (broadcastInDim S8192x1024 ![0] bcast_S8192_S8192x1024_0
        (Host.reduce IntOp.andi rowOk (constantI S_ 1 1#1) reducesTo_S8192x1_S8192_d1 h_S_))
      (Host.gather gather_S8192x1024_S8192x1_S8192x1024_1_0_n_n_0_1_11024 x rowIx) z = x := by
  rw [gather_rows]
  funext j
  show Scalar.select (Host.reduce IntOp.andi rowOk (constantI S_ 1 1#1) reducesTo_S8192x1_S8192_d1 h_S_ _) (x j) (z j) = x j
  rw [mask_apply]; rfl

variable {F : FTy → Type} [FloatOps F]

/-- The reference's result: the table behind one leading axis. -/
abbrev Behind (x : (⟨S8192x1024, .f32⟩ : BufTy).Contents (Elt F)) : (⟨S1x8192x1024, .f32⟩ : BufTy).Contents (Elt F) :=
  broadcastInDim S1x8192x1024 ![1, 2] bcast_S8192x1024_S1x8192x1024_1_2 x

/-- The ideal reference's run: the result is the table behind one leading axis, the arguments are unchanged, and there is no
    counter to leave raised. -/
theorem run_ideal (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v2) = Behind (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h =>
      ⟨fun c => ⟨(h c).1.trans (congrArg (Behind (F := F)) (lookup_eq _ _)), (h c).2⟩, sem_eq_zero_of_no_sems (by decide) r.2⟩)
    (Cert.ReferenceIdeal.Value.run m ρ)

/-- The reference's run, likewise. -/
theorem run_ref (m : (ℓ : Loc Cert.Reference.nD Cert.Reference.τ Cert.Reference.sig) → Buf (Elt F) ℓ)
    (ρ : Dev Cert.Reference.nD → PrngReg) :
    θ_run (Cert.Reference.defs (F := F)) (onTc (τ := Cert.Reference.τ) (Cert.Reference.main (F := F))) ⟨m, fun _ => 0, ρ⟩ fun r =>
      (∀ c : Dev Cert.Reference.nD,
      r.2.mem ((c.tc : Thread Cert.Reference.nD Cert.Reference.τ).loc Cert.Reference.main_v2)
        = Behind (F := F) (m ((c.tc : Thread Cert.Reference.nD Cert.Reference.τ).loc Cert.Reference.main_arg1))
      ∧ r.2.mem ((c.tc : Thread Cert.Reference.nD Cert.Reference.τ).loc Cert.Reference.main_arg0)
        = m ((c.tc : Thread Cert.Reference.nD Cert.Reference.τ).loc Cert.Reference.main_arg0)
      ∧ r.2.mem ((c.tc : Thread Cert.Reference.nD Cert.Reference.τ).loc Cert.Reference.main_arg1)
        = m ((c.tc : Thread Cert.Reference.nD Cert.Reference.τ).loc Cert.Reference.main_arg1))
      ∧ r.2.sem = fun _ => 0 :=
  (θ_run Cert.Reference.defs _ _).mono (fun r h =>
      ⟨fun c => ⟨(h c).1.trans (congrArg (Behind (F := F)) (lookup_eq _ _)), (h c).2⟩, sem_eq_zero_of_no_sems (by decide) r.2⟩)
    (Cert.Reference.Value.run m ρ)

end Cert.Proof.PosEmb.Lookup

end
-- ==== Proof.lean ====
/-
  The claims. The kernel's run is proved once, for any float values (Proof/Launch.lean): its result is the table behind one
  leading axis, its arguments are unchanged and every counter reads zero. The reference's run says the same of the reference
  (Proof/Ref.lean). Each claim is one of these runs, or the two side by side.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Proof.PosEmb

/-- The kernel's frame: the run at the chip's own floats. -/
theorem frame_kernel : Cert.quiescent_Kernel := fun m ρ _ =>
  (θ_run Cert.KernelIdeal.defs _ _).mono (fun _ h => ⟨fun c => (h.1 c).2, h.2⟩) (run_main (F := Bits) m ρ)

/-- The idealization's frame: the run at the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The ideal reference's frame. -/
theorem frame_refIdeal : Cert.quiescent_ReferenceIdeal := fun m ρ _ =>
  (θ_run Cert.ReferenceIdeal.defs _ _).mono (fun _ h => ⟨fun c => (h.1 c).2, h.2⟩) (Lookup.run_ideal (F := Ideal) m ρ)

/-- The reference's frame. -/
theorem frame_ref : Cert.quiescent_Reference := fun m ρ _ =>
  (θ_run Cert.Reference.defs _ _).mono (fun _ h => ⟨fun c => (h.1 c).2, h.2⟩) (Lookup.run_ref (F := Bits) m ρ)

/-- Both idealizations end with the table behind one leading axis. -/
theorem algebraic : Cert.algebraic_KernelIdeal_ReferenceIdeal := fun m ρ m' ρ' _ hag =>
  ⟨fun c => Rv m c,
    (θ_run Cert.KernelIdeal.defs _ _).mono (fun _ h => h.1) (run_main (F := Ideal) m ρ),
    (θ_run Cert.ReferenceIdeal.defs _ _).mono
      (fun _ h c => ⟨(h.1 c).1.trans (congrArg (Lookup.Behind (F := Ideal)) (hag c).2), (h.1 c).2⟩)
      (Lookup.run_ideal (F := Ideal) m' ρ')⟩

/-- So do both programs at the chip's own floats, bit for bit. -/
theorem bitexact : Cert.bitexact_Kernel_Reference := fun m ρ m' ρ' _ hag =>
  ⟨fun c => Rv (F := Bits) m c,
    (θ_run Cert.KernelIdeal.defs _ _).mono (fun _ h => h.1) (run_main (F := Bits) m ρ),
    (θ_run Cert.Reference.defs _ _).mono
      (fun _ h c => ⟨(h.1 c).1.trans (congrArg (Lookup.Behind (F := Bits)) (hag c).2), (h.1 c).2⟩)
      (Lookup.run_ref (F := Bits) m' ρ')⟩

theorem claim : Cert.Claim := ⟨Cert.Kernel.Gen.facts, Cert.KernelIdeal.Gen.facts, Cert.ReferenceIdeal.Gen.facts, Cert.Reference.Gen.facts,
  frame_kernel, frame_ideal, frame_refIdeal, frame_ref, trivial, algebraic, bitexact⟩

end Cert.Proof

end
